-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codewords_apart [hPre_codewords_apart : Cert.Pre_codewords_apart.Facts] (m : (ℓ : Loc Cert.KernelIdeal.nD Cert.KernelIdeal.τ Cert.KernelIdeal.sig) → Buf (Elt Ideal) ℓ) : Prop :=
  ∀ c : Dev Cert.KernelIdeal.nD,
    (Cert.Pre_codewords_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codewords_apart [hPre_codewords_apart : Cert.Pre_codewords_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codewords_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_codewords_apart [hKernelIdeal : Cert.KernelIdeal.Facts] [hPre_codewords_apart : Cert.Pre_codewords_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codewords_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_codewords_apart [hReferenceIdeal : Cert.ReferenceIdeal.Facts] [hPre_codewords_apart : Cert.Pre_codewords_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codewords_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_codewords_apart [hKernelIdeal : Cert.KernelIdeal.Facts] [hReferenceIdeal : Cert.ReferenceIdeal.Facts] [hPre_codewords_apart : Cert.Pre_codewords_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codewords_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_codewords_apart : Cert.Pre_codewords_apart.Facts),
    quiescent_Kernel (hKernel := hKernel)
    ∧ quiescent_KernelIdeal (hKernelIdeal := hKernelIdeal)
    ∧ quiescent_KernelIdeal_pre_codewords_apart (hKernelIdeal := hKernelIdeal) (hPre_codewords_apart := hPre_codewords_apart)
    ∧ quiescent_ReferenceIdeal (hReferenceIdeal := hReferenceIdeal)
    ∧ quiescent_ReferenceIdeal_pre_codewords_apart (hReferenceIdeal := hReferenceIdeal) (hPre_codewords_apart := hPre_codewords_apart)
    ∧ preserves_Kernel_KernelIdeal
    ∧ algebraic_KernelIdeal_ReferenceIdeal_pre_codewords_apart (hKernelIdeal := hKernelIdeal) (hReferenceIdeal := hReferenceIdeal) (hPre_codewords_apart := hPre_codewords_apart)
-- ==== Pre_codewords_apart.lean ====
abbrev S2x4096x1024 : Shape := ⟨3, ![2, 4096, 1024]⟩
abbrev S1024x16 : Shape := ⟨2, ![1024, 16]⟩
abbrev S4096x16 : Shape := ⟨2, ![4096, 16]⟩
abbrev S4096x1x16 : Shape := ⟨3, ![4096, 1, 16]⟩
abbrev S1x4096x16 : Shape := ⟨3, ![1, 4096, 16]⟩
abbrev S4096x4096x16 : Shape := ⟨3, ![4096, 4096, 16]⟩
abbrev S_ : Shape := ⟨0, ![]⟩
abbrev S4096x4096 : Shape := ⟨2, ![4096, 4096]⟩

class Facts : Prop where
  bcast_S4096x16_S4096x1x16_0_2 : S4096x16.BroadcastsInDim S4096x1x16 (![0, 2] : Fin 2 → Fin S4096x1x16.rank)
  bcast_S4096x16_S1x4096x16_1_2 : S4096x16.BroadcastsInDim S1x4096x16 (![1, 2] : Fin 2 → Fin S1x4096x16.rank)
  bcast_S4096x1x16_S4096x4096x16_0_1_2 : S4096x1x16.BroadcastsInDim S4096x4096x16 (![0, 1, 2] : Fin 3 → Fin S4096x4096x16.rank)
  bcast_S1x4096x16_S4096x4096x16_0_1_2 : S1x4096x16.BroadcastsInDim S4096x4096x16 (![0, 1, 2] : Fin 3 → Fin S4096x4096x16.rank)
  reducesTo_S4096x4096x16_S4096x4096_d2 : S4096x4096x16.ReducesTo [2] S4096x4096
  h_S_ : 0 < S_.numel
  bcast_S_S4096x16 : S_.BroadcastsInDim S4096x16 (![] : Fin 0 → Fin S4096x16.rank)
  reducesTo_S4096x16_S_d0_1 : S4096x16.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S2x4096x1024 .f32) (main_arg1 : FVec F S1024x16 .f32) (main_arg2 : FVec F S4096x16 .f32) : IVec S_ 1 :=
  let main_v0 : FVec F S4096x1x16 .f32 := broadcastInDim S4096x1x16 ![0, 2] bcast_S4096x16_S4096x1x16_0_2 main_arg2
  let main_v1 : FVec F S1x4096x16 .f32 := broadcastInDim S1x4096x16 ![1, 2] bcast_S4096x16_S1x4096x16_1_2 main_arg2
  let main_v2 : FVec F S4096x4096x16 .f32 := broadcastInDim S4096x4096x16 ![0, 1, 2] bcast_S4096x1x16_S4096x4096x16_0_1_2 main_v0
  let main_v3 : FVec F S4096x4096x16 .f32 := broadcastInDim S4096x4096x16 ![0, 1, 2] bcast_S1x4096x16_S4096x4096x16_0_1_2 main_v1
  let main_v4 : FVec F S4096x4096x16 .f32 := subf main_v2 main_v3
  let main_v5 : FVec F S4096x4096x16 .f32 := mulf main_v4 main_v4
  let main_cst : FVec F S_ .f32 := constant S_ .f32 0x00000000#32
  let main_v6 : FVec F S4096x4096 .f32 := (fun x v => Host.reduceAdd x v reducesTo_S4096x4096x16_S4096x4096_d2 h_S_) main_v5 main_cst
  let main_v7 : FVec F S4096x16 .f32 := Host.absf main_arg2
  let main_cst_0 : FVec F S_ .f32 := constant S_ .f32 0x7F800000#32
  let main_v8 : FVec F S4096x16 .f32 := broadcastInDim S4096x16 ![] bcast_S_S4096x16 main_cst_0
  let main_v9 : IVec S4096x16 1 := cmpf .olt main_v7 main_v8
  let main_c : IVec S_ 1 := constantI S_ 1 1#1
  let main_v10 : IVec S_ 1 := (fun x v => Host.reduce IntOp.andi x v reducesTo_S4096x16_S_d0_1 h_S_) main_v9 main_c
  let main_cst_1 : FVec F S_ .f32 := constant S_ .f32 0x00000000#32
  let main_v11 : FVec F S4096x4096 .f32 := broadcastInDim S4096x4096 ![] bcast_S_S4096x4096 main_cst_1
  let main_v12 : IVec S4096x4096 1 := cmpf .oeq main_v6 main_v11
  let main_cst_2 : FVec F S_ .f32 := constant S_ .f32 0x2C8CBCCC#32
  let main_v13 : FVec F S4096x4096 .f32 := broadcastInDim S4096x4096 ![] bcast_S_S4096x4096 main_cst_2
  let main_v14 : IVec S4096x4096 1 := cmpf .oge main_v6 main_v13
  let main_v15 : IVec S4096x4096 1 := ori main_v12 main_v14
  let main_c_3 : IVec S_ 1 := constantI S_ 1 1#1
  let main_v16 : IVec S_ 1 := (fun x v => Host.reduce IntOp.andi x v reducesTo_S4096x4096_S_d0_1 h_S_) main_v15 main_c_3
  let main_v17 : IVec S_ 1 := andi main_v10 main_v16
  main_v17
-- ==== Kernel.lean ====
abbrev S2x4096x1024 : Shape := ⟨3, ![2, 4096, 1024]⟩
abbrev S1024x16 : Shape := ⟨2, ![1024, 16]⟩
abbrev S4096x16 : Shape := ⟨2, ![4096, 16]⟩
abbrev S8192x1024 : Shape := ⟨2, ![8192, 1024]⟩
abbrev S4x1x2048 : Shape := ⟨3, ![4, 1, 2048]⟩
abbrev S2x4096 : Shape := ⟨2, ![2, 4096]⟩
abbrev S2048x1024 : Shape := ⟨2, ![2048, 1024]⟩
abbrev S1x1x2048 : Shape := ⟨3, ![1, 1, 2048]⟩
abbrev S2048x16 : Shape := ⟨2, ![2048, 16]⟩
abbrev S2048 : Shape := ⟨1, ![2048]⟩
abbrev S2048x1 : Shape := ⟨2, ![2048, 1]⟩
abbrev S2048x18 : Shape := ⟨2, ![2048, 18]⟩
abbrev S18x2048 : Shape := ⟨2, ![18, 2048]⟩
abbrev S1x2048 : Shape := ⟨2, ![1, 2048]⟩
abbrev S2048x2048 : Shape := ⟨2, ![2048, 2048]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S1024x16, .f32⟩
  | .hbm, ⟨2, _⟩ => ⟨S4096x16, .f32⟩
  | .hbm, ⟨3, _⟩ => ⟨S8192x1024, .f32⟩
  | .hbm, ⟨4, _⟩ => ⟨S4x1x2048, .i32⟩
  | .hbm, ⟨5, _⟩ => ⟨S2x4096, .i32⟩
  | .local _ .vmem, ⟨0, _⟩ => ⟨S2048x1024, .f32⟩
  | .local _ .vmem, ⟨1, _⟩ => ⟨S2048x1024, .f32⟩
  | .local _ .vmem, ⟨2, _⟩ => ⟨S1024x16, .f32⟩
  | .local _ .vmem, ⟨3, _⟩ => ⟨S4096x16, .f32⟩
  | .local _ .vmem, ⟨4, _⟩ => ⟨S1x1x2048, .i32⟩
  | .local _ .vmem, ⟨5, _⟩ => ⟨S1x1x2048, .i32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_9 : BitVec 32 := 0#32
  let c2_i32 : BitVec 32 := 2#32
  let v22 : BitVec 32 := Scalar.addi c0_i32_9 c2_i32
  let c1_i32 : BitVec 32 := 1#32
  ⟨c0_i32_9, v22, c1_i32⟩
def k0_off1 (k0_t1 : Fin k0_t1_loop.trips) : Fin 2 → Nat :=
  let c0_i32_9 : BitVec 32 := 0#32
  let c1_i32 : BitVec 32 := 1#32
  let arg5 : BitVec 32 := Scf.iv c0_i32_9 c1_i32 k0_t1
  let c2048_i32 : BitVec 32 := 2048#32
  let v26 : BitVec 32 := Scalar.muli arg5 c2048_i32
  let v27 : Index := Scalar.indexCast v26
  let c0_14 : Index := 0#32
  ![v27.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x4096x1024 : Shape := ⟨3, ![2, 4096, 1024]⟩
abbrev S1024x16 : Shape := ⟨2, ![1024, 16]⟩
abbrev S4096x16 : Shape := ⟨2, ![4096, 16]⟩
abbrev S2x4096x16 : Shape := ⟨3, ![2, 4096, 16]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S4096 : Shape := ⟨1, ![4096]⟩
abbrev S4096x1 : Shape := ⟨2, ![4096, 1]⟩
abbrev S1x8192 : Shape := ⟨2, ![1, 8192]⟩
abbrev S4096x8192 : Shape := ⟨2, ![4096, 8192]⟩
abbrev S16x8192 : Shape := ⟨2, ![16, 8192]⟩
abbrev S2x4096 : Shape := ⟨2, ![2, 4096]⟩

abbrev nBuf : Space → Nat
  | .hbm => 44
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x16, .f32⟩
  | .hbm, ⟨2, _⟩ => ⟨S4096x16, .f32⟩
  | .hbm, ⟨3, _⟩ => ⟨S2x4096x16, .f32⟩
  | .hbm, ⟨4, _⟩ => ⟨S8192x16, .f32⟩
  | .hbm, ⟨5, _⟩ => ⟨S8192x16, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x16, .f32⟩
  | .hbm, ⟨15, _⟩ => ⟨S8192x16, .f32⟩
  | .hbm, ⟨16, _⟩ => ⟨S4096x16, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S8192x16, .f32⟩
  | .hbm, ⟨21, _⟩ => ⟨S_, .f32⟩
  | .hbm, ⟨22, _⟩ => ⟨S8192, .f32⟩
  | .hbm, ⟨23, _⟩ => ⟨S1x8192, .f32⟩
  | .hbm, ⟨24, _⟩ => ⟨S4096x8192, .f32⟩
  | .hbm, ⟨25, _⟩ => ⟨S4096x8192, .f32⟩
  | .hbm, ⟨26, _⟩ => ⟨S4096x8192, .f32⟩
  | .hbm, ⟨27, _⟩ => ⟨S16x8192, .f32⟩
  | .hbm, ⟨28, _⟩ => ⟨S4096x8192, .f32⟩
  | .hbm, ⟨29, _⟩ => ⟨S_, .f32⟩
  | .hbm, ⟨30, _⟩ => ⟨S4096x8192, .f32⟩
  | .hbm, ⟨31, _⟩ => ⟨S4096x8192, .f32⟩
  | .hbm, ⟨32, _⟩ => ⟨S4096x8192, .f32⟩
  | .hbm, ⟨33, _⟩ => ⟨S_, .f32⟩
  | .hbm, ⟨34, _⟩ => ⟨S_, .f32⟩
  | .hbm, ⟨35, _⟩ => ⟨S4096x8192, .f32⟩
  | .hbm, ⟨36, _⟩ => ⟨S4096x8192, .f32⟩
  | .hbm, ⟨37, _⟩ => ⟨S4096x8192, .f32⟩
  | .hbm, ⟨38, _⟩ => ⟨S4096x8192, .i32⟩
  | .hbm, ⟨39, _⟩ => ⟨S_, .f32⟩
  | .hbm, ⟨40, _⟩ => ⟨S_, .i32⟩
  | .hbm, ⟨41, _⟩ => ⟨S8192, .f32⟩
  | .hbm, ⟨42, _⟩ => ⟨S8192, .i32⟩
  | .hbm, ⟨43, _⟩ => ⟨S2x4096, .i32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v2 : Ref sig .tc := ⟨.hbm, 9, rfl⟩
abbrev main_cst : Ref sig .tc := ⟨.hbm, 10, rfl⟩
abbrev main_call1_v0 : Ref sig .tc := ⟨.hbm, 11, rfl⟩
abbrev main_call1_v1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_call2_v0 : Ref sig .tc := ⟨.hbm, 34, rfl⟩
abbrev main_call2_v1 : Ref sig .tc := ⟨.hbm, 35, rfl⟩
abbrev main_v20 : Ref sig .tc := ⟨.hbm, 36, rfl⟩
abbrev main_v21 : Ref sig .tc := ⟨.hbm, 37, rfl⟩
abbrev main_call3_v0 : Ref sig .tc := ⟨.hbm, 38, rfl⟩
abbrev main_call3_cst : Ref sig .tc := ⟨.hbm, 39, rfl⟩
abbrev main_call3_c : Ref sig .tc := ⟨.hbm, 40, rfl⟩
abbrev main_call3_v1_0 : Ref sig .tc := ⟨.hbm, 41, rfl⟩
abbrev main_v22 : Ref sig .tc := ⟨.hbm, 42, rfl⟩
abbrev main_v23 : Ref sig .tc := ⟨.hbm, 43, rfl⟩

abbrev nD : Nat := 1
abbrev τ : Topo := Topo.v7x

variable {F : FTy → Type} [FloatOps F]
-- ==== Proof.ReferenceRun.lean ====
/- The reference program's run: a straight line of host operations, so every buffer ends at the operations' results
   folded over what was there at the start. `nearest` is what the last of them leaves, stated by its stages: the
   projection, the normalised rows, the distances, the index of the least. -/
module

public import proofs.«01_k».proof.ReferenceIdeal
public import proofs.«01_k».proof.Proof.Gen.ReferenceIdeal
public import Idealize.ShloMosaic.Lib.StableHlo.Run
public import Idealize.ShloMosaic.Lib.Quiescent

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-! ## The stages -/

/-- The rows' projections. -/
def proj (x : FVec F S2x4096x1024 .f32) (rp : FVec F S1024x16 .f32) : FVec F S8192x16 .f32 :=
  shapeCast S8192x16 (Host.dotGeneral dot_S2x4096x1024_S1024x16_S2x4096x16_2_0_01_1_n_n none x rp) shapeCasts_S2x4096x16_S8192x16

/-- The rows' lengths. -/
def lengths (p : FVec F S8192x16 .f32) : FVec F S8192x1 .f32 :=
  Host.sqrt (broadcastInDim S8192x1 ![0] bcast_S8192_S8192x1_0
    (Host.reduceAdd (mulf p p) (constant S_ .f32 0x00000000#32) reducesTo_S8192x16_S8192_d1 h_S_))

/-- The rows over their lengths, a length no lower than the floor. -/
def rows (p : FVec F S8192x16 .f32) : FVec F S8192x16 .f32 :=
  Host.divf p (broadcastInDim S8192x16 ![0, 1] bcast_S8192x1_S8192x16_0_1
    (maximumf (broadcastInDim S8192x1 ![] bcast_S_S8192x1 (id (constant S_ .f32 0x2B8CBCCC#32))) (lengths p)))

/-- The squared distances of every codeword from every row. -/
def squared (cb : FVec F S4096x16 .f32) (n : FVec F S8192x16 .f32) : FVec F S4096x8192 .f32 :=
  subf
    (addf
      (broadcastInDim S4096x8192 ![0, 1] bcast_S4096x1_S4096x8192_0_1 (broadcastInDim S4096x1 ![0] bcast_S4096_S4096x1_0
        (Host.reduceAdd (mulf cb cb) (constant S_ .f32 0x00000000#32) reducesTo_S4096x16_S4096_d1 h_S_)))
      (broadcastInDim S4096x8192 ![0, 1] bcast_S1x8192_S4096x8192_0_1 (broadcastInDim S1x8192 ![1] bcast_S8192_S1x8192_1
        (Host.reduceAdd (mulf n n) (constant S_ .f32 0x00000000#32) reducesTo_S8192x16_S8192_d1 h_S_))))
    (mulf (broadcastInDim S4096x8192 ![] bcast_S_S4096x8192 (constant S_ .f32 0x40000000#32))
      (Host.dotGeneral dot_S4096x16_S16x8192_S4096x8192_1_0_0_1_n_n none cb
        (transpose S16x8192 [1, 0] n transposes_S8192x16_S16x8192_1_0)))

/-- The distances, a squared distance no lower than the floor. -/
def distances (d : FVec F S4096x8192 .f32) : FVec F S4096x8192 .f32 :=
  Host.sqrt (maximumf (broadcastInDim S4096x8192 ![] bcast_S_S4096x8192 (id (constant S_ .f32 0x2B8CBCCC#32))) d)

/-- Each column's index of its least distance. -/
def leastIndex (d : FVec F S4096x8192 .f32) : IVec S8192 32 := fun j =>
  (Host.argReduce reducer_argmin_f32_i32 d (iotaInDim S4096x8192 32 0) (constant S_ .f32 0x7F800000#32) (constantI S_ 32 0#32)
    reducesTo_S4096x8192_S8192_d0 h_S_ j).2

/-- What the program returns. -/
def nearest (x : FVec F S2x4096x1024 .f32) (rp : FVec F S1024x16 .f32) (cb : FVec F S4096x16 .f32) : IVec S2x4096 32 :=
  shapeCast S2x4096 (leastIndex (distances (squared cb (rows (proj x rp))))) shapeCasts_S8192_S2x4096

/-! ## The run -/

/-- The projection. -/
abbrev opsProj : List (HloOp τ sig (Elt F)) :=
  [ binary main_arg0 main_arg1 main_v0 (fun l r => Host.dotGeneral dot_S2x4096x1024_S1024x16_S2x4096x16_2_0_01_1_n_n none l r),
    reshape main_v0 main_v1 (rfl : (.f32 : EltTy) = .f32) shapeCasts_S2x4096x16_S8192x16 ]

/-- The normalised rows. -/
abbrev opsRows : List (HloOp τ sig (Elt F)) :=
  [ binary main_v1 main_v1 main_call0_v0 mulf,
    nullary main_call0_cst (constant S_ .f32 0x00000000#32),
    binary main_call0_v0 main_call0_cst main_call0_v1 (fun x v => Host.reduceAdd x v reducesTo_S8192x16_S8192_d1 h_S_),
    unary main_call0_v1 main_call0_v2 (broadcastInDim S8192x1 ![0] bcast_S8192_S8192x1_0),
    unary main_call0_v2 main_v2 Host.sqrt,
    nullary main_cst (constant S_ .f32 0x2B8CBCCC#32),
    unary main_cst main_call1_v0 id,
    unary main_call1_v0 main_call1_v1 (broadcastInDim S8192x1 ![] bcast_S_S8192x1),
    binary main_call1_v1 main_v2 main_v3 maximumf,
    unary main_v3 main_v4 (broadcastInDim S8192x16 ![0, 1] bcast_S8192x1_S8192x16_0_1),
    binary main_v1 main_v4 main_v5 Host.divf ]

/-- The squared distances. -/
abbrev opsSquared : List (HloOp τ sig (Elt F)) :=
  [ binary main_arg2 main_arg2 main_v6 mulf,
    nullary main_cst_0 (constant S_ .f32 0x00000000#32),
    binary main_v6 main_cst_0 main_v7 (fun x v => Host.reduceAdd x v reducesTo_S4096x16_S4096_d1 h_S_),
    unary main_v7 main_v8 (broadcastInDim S4096x1 ![0] bcast_S4096_S4096x1_0),
    binary main_v5 main_v5 main_v9 mulf,
    nullary main_cst_1 (constant S_ .f32 0x00000000#32),
    binary main_v9 main_cst_1 main_v10 (fun x v => Host.reduceAdd x v reducesTo_S8192x16_S8192_d1 h_S_),
    unary main_v10 main_v11 (broadcastInDim S1x8192 ![1] bcast_S8192_S1x8192_1),
    unary main_v8 main_v12 (broadcastInDim S4096x8192 ![0, 1] bcast_S4096x1_S4096x8192_0_1),
    unary main_v11 main_v13 (broadcastInDim S4096x8192 ![0, 1] bcast_S1x8192_S4096x8192_0_1),
    binary main_v12 main_v13 main_v14 addf,
    unary main_v5 main_v15 (transpose S16x8192 [1, 0] · transposes_S8192x16_S16x8192_1_0),
    binary main_arg2 main_v15 main_v16 (fun l r => Host.dotGeneral dot_S4096x16_S16x8192_S4096x8192_1_0_0_1_n_n none l r),
    nullary main_cst_2 (constant S_ .f32 0x40000000#32),
    unary main_cst_2 main_v17 (broadcastInDim S4096x8192 ![] bcast_S_S4096x8192),
    binary main_v17 main_v16 main_v18 mulf,
    binary main_v14 main_v18 main_v19 subf ]

/-- The distances. -/
abbrev opsDistances : List (HloOp τ sig (Elt F)) :=
  [ nullary main_cst_3 (constant S_ .f32 0x2B8CBCCC#32),
    unary main_cst_3 main_call2_v0 id,
    unary main_call2_v0 main_call2_v1 (broadcastInDim S4096x8192 ![] bcast_S_S4096x8192),
    binary main_call2_v1 main_v19 main_v20 maximumf,
    unary main_v20 main_v21 Host.sqrt ]

/-- The least distance's index, and the result. -/
abbrev opsLeast : List (HloOp τ sig (Elt F)) :=
  [ nullary main_call3_v0 (iotaInDim S4096x8192 32 0),
    nullary main_call3_cst (constant S_ .f32 0x7F800000#32),
    nullary main_call3_c (constantI S_ 32 0#32),
    quaternary main_v21 main_call3_v0 main_call3_cst main_call3_c main_call3_v1_0
      (fun x y u v j => (Host.argReduce reducer_argmin_f32_i32 x y u v reducesTo_S4096x8192_S8192_d0 h_S_ j).1),
    quaternary main_v21 main_call3_v0 main_call3_cst main_call3_c main_v22
      (fun x y u v j => (Host.argReduce reducer_argmin_f32_i32 x y u v reducesTo_S4096x8192_S8192_d0 h_S_ j).2),
    reshape main_v22 main_v23 (rfl : (.i32 : EltTy) = .i32) shapeCasts_S8192_S2x4096 ]

/-- The operations, in order, those of the module's functions at the places that call them. -/
abbrev ops : List (HloOp τ sig (Elt F)) := opsProj ++ (opsRows ++ (opsSquared ++ (opsDistances ++ opsLeast)))

/-- The program is that straight line. -/
theorem main_eq (c : Dev nD) : main (F := F) c = seq ops := rfl

theorem after_two (l₁ l₂ : List (HloOp τ sig (Elt F))) (V : Valuation τ sig (Elt F)) :
    after (l₁ ++ l₂) V = after l₂ (after l₁ V) := by
  induction l₁ generalizing V with
  | nil => rfl
  | cons op l₁ ih => exact ih _

/-! What each part leaves, over any contents. -/

variable (V : Valuation τ sig (Elt F))

theorem proj_eq : after opsProj V (main_v1 : DevRef τ sig)
    = proj (F := F) (V (main_arg0 : DevRef τ sig)) (V (main_arg1 : DevRef τ sig)) := by
  after_results
  rfl
theorem rows_eq : after opsRows V (main_v5 : DevRef τ sig) = rows (F := F) (V (main_v1 : DevRef τ sig)) := by
  after_results
  rfl
theorem squared_eq : after opsSquared V (main_v19 : DevRef τ sig)
    = squared (F := F) (V (main_arg2 : DevRef τ sig)) (V (main_v5 : DevRef τ sig)) := by
  after_results
  rfl
theorem distances_eq : after opsDistances V (main_v21 : DevRef τ sig) = distances (F := F) (V (main_v19 : DevRef τ sig)) := by
  after_results
  rfl
/-- The last part at any reducing functions, of which only the second's result is read. -/
theorem least_of
    (g₁ : (⟨S4096x8192, .f32⟩ : BufTy).Contents (Elt F) → (⟨S4096x8192, .i32⟩ : BufTy).Contents (Elt F) →
      (⟨S_, .f32⟩ : BufTy).Contents (Elt F) → (⟨S_, .i32⟩ : BufTy).Contents (Elt F) → (⟨S8192, .f32⟩ : BufTy).Contents (Elt F))
    (g₂ : (⟨S4096x8192, .f32⟩ : BufTy).Contents (Elt F) → (⟨S4096x8192, .i32⟩ : BufTy).Contents (Elt F) →
      (⟨S_, .f32⟩ : BufTy).Contents (Elt F) → (⟨S_, .i32⟩ : BufTy).Contents (Elt F) → (⟨S8192, .i32⟩ : BufTy).Contents (Elt F)) :
    after
      [ nullary main_call3_v0 (iotaInDim S4096x8192 32 0),
        nullary main_call3_cst (constant S_ .f32 0x7F800000#32),
        nullary main_call3_c (constantI S_ 32 0#32),
        quaternary main_v21 main_call3_v0 main_call3_cst main_call3_c main_call3_v1_0 g₁,
        quaternary main_v21 main_call3_v0 main_call3_cst main_call3_c main_v22 g₂,
        reshape main_v22 main_v23 (rfl : (.i32 : EltTy) = .i32) shapeCasts_S8192_S2x4096 ] V (main_v23 : DevRef τ sig)
      = shapeCast S2x4096 (g₂ (V (main_v21 : DevRef τ sig)) (iotaInDim S4096x8192 32 0) (constant S_ .f32 0x7F800000#32)
          (constantI S_ 32 0#32)) shapeCasts_S8192_S2x4096 := by
  after_results
  rfl

theorem least_eq : after opsLeast V (main_v23 : DevRef τ sig)
    = shapeCast S2x4096 (leastIndex (F := F) (V (main_v21 : DevRef τ sig))) shapeCasts_S8192_S2x4096 :=
  least_of V _ _

/-! No operation writes an argument's buffer. -/

theorem book_eq₁ : after opsProj V (main_arg2 : DevRef τ sig) = V (main_arg2 : DevRef τ sig) := by
  after_results
theorem book_eq₂ : after opsRows V (main_arg2 : DevRef τ sig) = V (main_arg2 : DevRef τ sig) := by
  after_results
theorem arg0_eq : after ops V (main_arg0 : DevRef τ sig) = V (main_arg0 : DevRef τ sig) := by
  simp only [ops, List.cons_append, List.nil_append]
  after_results
theorem arg1_eq : after ops V (main_arg1 : DevRef τ sig) = V (main_arg1 : DevRef τ sig) := by
  simp only [ops, List.cons_append, List.nil_append]
  after_results
theorem arg2_eq : after ops V (main_arg2 : DevRef τ sig) = V (main_arg2 : DevRef τ sig) := by
  simp only [ops, List.cons_append, List.nil_append]
  after_results

/-- The last operation's buffer ends at `nearest` of the arguments. -/
theorem out_eq : after ops V (main_v23 : DevRef τ sig)
    = nearest (F := F) (V (main_arg0 : DevRef τ sig)) (V (main_arg1 : DevRef τ sig)) (V (main_arg2 : DevRef τ sig)) := by
  unfold ops
  rw [after_two, after_two, after_two, after_two, least_eq, distances_eq, squared_eq, rows_eq, proj_eq, book_eq₂, book_eq₁,
    nearest]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp

/-- From any memory with zero counters the program ends with `nearest` of the arguments in the result's buffer, the
    arguments as they were, and every counter at zero. -/
theorem run_main (m : (ℓ : Loc nD τ sig) → Buf (Elt F) ℓ) (ρ : Dev nD → PrngReg) :
    θ_run defs (onTc (τ := τ) (main (F := F))) ⟨m, fun _ => 0, ρ⟩ fun r => (∀ c : Dev nD,
        r.2.mem ((c.tc : Thread nD τ).loc main_v23) = nearest (F := F) (m ((c.tc : Thread nD τ).loc main_arg0))
            (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => ⟨(h c main_v23).trans (out_eq _), (h c main_arg0).trans (arg0_eq _),
      (h c main_arg1).trans (arg1_eq _), (h c main_arg2).trans (arg2_eq _)⟩, sem_eq_zero_of_no_sems (by decide) r.2⟩)
    (run_seq scopedRefs_eq scopedSems_eq defs main (fun _ => ops) main_eq (fun _ => ops_sub) m ρ)

end Cert.ReferenceIdeal.Run

end
-- ==== Proof.KernelBlock.lean ====
/- What one grid point of the kernel leaves in its output block: two trips over the codebook's two halves, each keeping
   the least distance so far and the index of the codeword at that distance. -/
module

public import proofs.«01_k».proof.KernelIdeal
public import proofs.«01_k».proof.Proof.Gen.KernelIdeal.Frame
public import Idealize.ShloMosaic.Lib.Pointwise
public import Idealize.ShloMosaic.Lib.Pipeline.Value
public import Idealize.ShloMosaic.Lib.Tactic

@[expose] public section

set_option maxRecDepth 16384

noncomputable section

namespace Cert.KernelIdeal.Block

open Cert.KernelIdeal Cert.KernelIdeal.Gen
open Idealize.ShloMosaic Idealize.ShloMosaic.TcCoe Idealize.SL.Sem

variable {F : FTy → Type} [FloatOps F]

/-- The loop makes two trips. -/
theorem trips_eq : k0_t1_loop.trips = 2 := by decide

theorem zeros₂ : (![0, 0] : Fin 2 → Nat) = fun _ => 0 := funext fun a => by fin_cases a <;> rfl
theorem zeros₃ : (![0, 0, 0] : Fin 3 → Nat) = fun _ => 0 := funext fun a => by fin_cases a <;> rfl

/-- The trips, first and second. -/
def k₀ : Fin k0_t1_loop.trips := ⟨0, by rw [trips_eq]; decide⟩
def k₁ : Fin k0_t1_loop.trips := ⟨1, by rw [trips_eq]; decide⟩

/-- The codewords trip `k` reads. -/
def chunk (cb : Vec F S4096x16 .f32) (k : Fin k0_t1_loop.trips) : Vec F S2048x16 .f32 :=
  View.ld cb (Rect.unit (s := S4096x16) (k0_off1 k) S2048x16.size (k0_off1_inb k))

/-- One trip's step on the least distance and its index. -/
def step (x : Vec F S2048x1024 .f32) (rp : Vec F S1024x16 .f32) (cb : Vec F S4096x16 .f32) (k : Fin k0_t1_loop.trips)
    (acc : FVec F S1x2048 .f32 × IVec S1x2048 32) : FVec F S1x2048 .f32 × IVec S1x2048 32 :=
  (k0_pay6 x rp acc.1 (chunk cb k), k0_pay7 x rp k acc.1 acc.2 (chunk cb k))

section
variable (c : Dev nD) (i : grid0.Coords) (arg1 : Memref sig .tc .vmem S2048x1024 .f32) (harg1 : arg1.IsWhole)
    (arg2 : Memref sig .tc .vmem S1024x16 .f32) (harg2 : arg2.IsWhole) (arg3 : Memref sig .tc .vmem S4096x16 .f32) (harg3 : arg3.IsWhole)
    (arg4 : Memref sig .tc .vmem S1x1x2048 .i32) (harg4 : arg4.IsWhole)
    (x0 : Vec F S2048x1024 .f32) (x1 : Vec F S1024x16 .f32) (x2 : Vec F S4096x16 .f32)

theorem trip_eq (k : Fin k0_t1_loop.trips) (acc : FVec F S1x2048 .f32 × IVec S1x2048 32) :
    tripR_k0_t1 Variants.none c none i arg1 harg1 arg2 harg2 arg3 harg3 arg4 harg4 x0 x1 (harg3.unread x2) k acc = step x0 x1 x2 k acc := by
  unfold tripR_k0_t1 trip_k0_t1 step chunk
  dsimp only
  simp only [View.readAt_eq_ld, harg3.read_unread]

/-- The block a point leaves: the second component after both trips. -/
theorem out_eq : out0_A_3 c i arg1 harg1 arg2 harg2 arg3 harg3 arg4 harg4 x0 x1 x2
    = k0_pay8 (step x0 x1 x2 k₁ (step x0 x1 x2 k₀ (k0_pay1, k0_pay2))).2 := by
  unfold out0_A_3
  rw [View.read_writes_eq_canon _ _ _ (cover0_A_3 c i arg1 harg1 arg2 harg2 arg3 harg3 arg4 harg4 x0 x1 x2)]
  unfold kernelRun0_A
  dsimp only
  sl_unfold_words
  rw [View.canon_unit_zero zeros₃]
  simp only [View.readAt_eq_ld, harg1.read_unread, harg2.read_unread]
  rw [View.ld_unit_zero (S := S2048x1024) zeros₂, View.ld_unit_zero (S := S1024x16) zeros₂]
  rw [show Scf.trips (0#32) (Scalar.addi 0#32 2#32) 1#32 = k₁.val + 1 by decide, st_k0_t1_succ, trip_eq,
    show k₁.val = k₀.val + 1 by decide, st_k0_t1_succ, trip_eq]
  rfl

end

/-- The point's output block over the windows' blocks. -/
theorem outsAt_eq (m : (ℓ : Loc nD τ sig) → Buf (Elt F) ℓ) (c : Dev nD) (t : Fin cfg0.N) :
    outsAt0 m c t = k0_pay8 (step (iblk m c 0 t) (iblk m c 1 t) (iblk m c 2 t) k₁
      (step (iblk m c 0 t) (iblk m c 1 t) (iblk m c 2 t) k₀ (k0_pay1, k0_pay2))).2 :=
  out_eq ..

end Cert.KernelIdeal.Block

end
-- ==== Proof.FirstMin.lean ====
/- The first index of least value, and the three folds that find it: a least value beside a least index among the
   columns that attain it, two chunks of such taken one after the other, and a fold over (value, index) pairs that
   keeps the lower value and, between equal ones, the lower index. -/
module

public import Idealize.ShloMosaic.Lib.Pointwise
public import Idealize.ShloMosaic.Lib.SortNet.Extract
public import Idealize.ShloMosaic.PureOps.Ideal.Laws

@[expose] public section

noncomputable section

namespace Cert.FirstMin

open Idealize.ShloMosaic

/-- `i` is the first index at which `f` is least. -/
def IsFirst {n : ℕ} (f : Fin n → EReal) (i : Fin n) : Prop := (∀ j, f i ≤ f j) ∧ ∀ j, j < i → f i < f j

theorem IsFirst.unique {n : ℕ} {f : Fin n → EReal} {i j : Fin n} (hi : IsFirst f i) (hj : IsFirst f j) : i = j := by
  rcases lt_trichotomy i j with h | h | h
  · exact absurd (hj.2 i h) (not_lt.mpr (hi.1 j))
  · exact h
  · exact absurd (hi.2 j h) (not_lt.mpr (hj.1 i))

theorem exists_isFirst {n : ℕ} [NeZero n] (f : Fin n → EReal) : ∃ i, IsFirst f i := by
  obtain ⟨m, hm⟩ := Finite.exists_min f
  have hne : ({i | f i ≤ f m} : Set (Fin n)).Nonempty := ⟨m, le_refl (f m)⟩
  let wf : WellFounded (fun a b : Fin n => a < b) := wellFounded_lt
  refine ⟨wf.min _ hne, fun j => le_trans (wf.min_mem _ hne) (hm j), fun j hj => ?_⟩
  have h1 : ¬ f j ≤ f m := fun h => wf.not_lt_min _ h hj
  exact lt_of_le_of_lt (wf.min_mem {i | f i ≤ f m} hne) (not_le.mp h1)

/-! ## The fold over pairs -/

/-- The order the fold over pairs decreases: by the value, then by the index as a signed word. -/
def PairLe (p q : EReal × BitVec 32) : Prop := p.1 < q.1 ∨ (p.1 = q.1 ∧ p.2.toInt ≤ q.2.toInt)

theorem PairLe.refl (p : EReal × BitVec 32) : PairLe p p := .inr ⟨rfl, le_refl _⟩

theorem PairLe.trans {p q r : EReal × BitVec 32} (h : PairLe p q) (h' : PairLe q r) : PairLe p r := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- A body that returns one of its two pairs, at most both. -/
def Picks (op : EReal × BitVec 32 → EReal × BitVec 32 → EReal × BitVec 32) : Prop :=
  ∀ a b, (op a b = a ∨ op a b = b) ∧ PairLe (op a b) a ∧ PairLe (op a b) b

theorem foldl_picks {op : EReal × BitVec 32 → EReal × BitVec 32 → EReal × BitVec 32} (h : Picks op)
    (l : List (EReal × BitVec 32)) (z : EReal × BitVec 32) :
    (l.foldl op z = z ∨ l.foldl op z ∈ l) ∧ PairLe (l.foldl op z) z ∧ ∀ p ∈ l, PairLe (l.foldl op z) p := by
  induction l generalizing z with
  | nil => exact ⟨.inl rfl, .refl _, fun p hp => absurd hp List.not_mem_nil⟩
  | cons a l ih =>
    rw [List.foldl_cons]
    obtain ⟨hm, hz, hl⟩ := ih (op z a)
    obtain ⟨hc, hza, haa⟩ := h z a
    refine ⟨?_, hz.trans hza, fun p hp => ?_⟩
    · rcases hm with hm | hm
      · rcases hc with hc | hc
        · exact .inl (hm.trans hc)
        · exact .inr (by rw [hm, hc]; exact List.mem_cons_self)
      · exact .inr (List.mem_cons_of_mem _ hm)
    · rcases List.mem_cons.mp hp with rfl | hp
      · exact hz.trans haa
      · exact hl p hp

theorem toInt_ofNat {k : ℕ} (h : k < 2 ^ 31) : (BitVec.ofNat 32 k).toInt = k := by
  rw [BitVec.toInt_ofNat']
  exact Int.bmod_eq_of_le (by omega) (by omega)

/-- Folded over the pairs of a column and its row numbers, from a value above every one of them, such a body ends in
    the word of the first index of least value. -/
theorem foldl_isFirst {op : EReal × BitVec 32 → EReal × BitVec 32 → EReal × BitVec 32} (h : Picks op)
    {n : ℕ} [NeZero n] (hn : n ≤ 2 ^ 31) (f : Fin n → EReal) (hf : ∀ j, f j < ⊤) (l : List (EReal × BitVec 32))
    (hl : ∀ p, p ∈ l ↔ ∃ j : Fin n, p = (f j, BitVec.ofNat 32 j.val)) (w : BitVec 32) :
    ∃ i, IsFirst f i ∧ (l.foldl op (⊤, w)).2 = BitVec.ofNat 32 i.val := by
  obtain ⟨hm, hz, hall⟩ := foldl_picks h l (⊤, w)
  have hmem : l.foldl op (⊤, w) ∈ l := by
    rcases hm with hm | hm
    · have h0 := hall _ ((hl (f 0, BitVec.ofNat 32 (0 : Fin n).val)).mpr ⟨0, rfl⟩)
      rw [hm] at h0
      rcases h0 with h0 | ⟨h0, -⟩
      · exact absurd h0 not_top_lt
      · exact absurd (hf 0) (by rw [show f 0 = ⊤ from h0.symm]; exact lt_irrefl _)
    · exact hm
  obtain ⟨i, hi⟩ := (hl _).mp hmem
  refine ⟨i, ⟨fun j => ?_, fun j hj => ?_⟩, by rw [hi]⟩
  · have := hall _ ((hl _).mpr ⟨j, rfl⟩)
    rw [hi] at this
    rcases this with h' | ⟨h', -⟩
    · exact le_of_lt h'
    · exact le_of_eq h'
  · have := hall _ ((hl _).mpr ⟨j, rfl⟩)
    rw [hi] at this
    rcases this with h' | ⟨-, h'⟩
    · exact h'
    · exfalso
      have h1 := toInt_ofNat (k := i.val) (by omega)
      have h2 := toInt_ofNat (k := j.val) (by omega)
      simp only at h'
      have : j.val < i.val := hj
      omega

/-! ## One chunk: the least value, and the least row number among the rows that attain it -/

theorem fold_minsi_spec {ι : Type} [DecidableEq ι] (s : Finset ι) (z : BitVec 32) (f : ι → BitVec 32) :
    (s.fold IntOp.minsi z f = z ∨ ∃ x ∈ s, s.fold IntOp.minsi z f = f x)
      ∧ ∀ x ∈ s, (s.fold IntOp.minsi z f).toInt ≤ (f x).toInt := by
  induction s using Finset.induction_on with
  | empty => exact ⟨.inl rfl, fun x hx => absurd hx (Finset.notMem_empty x)⟩
  | insert a s ha ih =>
    rw [Finset.fold_insert ha]
    refine ⟨?_, fun x hx => ?_⟩
    · rcases (show IntOp.minsi (f a) (s.fold IntOp.minsi z f) = f a ∨ IntOp.minsi (f a) (s.fold IntOp.minsi z f) = s.fold IntOp.minsi z f by
        unfold IntOp.minsi; split <;> simp) with h | h
      · exact .inr ⟨a, Finset.mem_insert_self _ _, h⟩
      · rw [h]
        rcases ih.1 with h' | ⟨x, hx, h'⟩
        · exact .inl h'
        · exact .inr ⟨x, Finset.mem_insert_of_mem hx, h'⟩
    · rw [SortNet.toInt_minsi]
      rcases Finset.mem_insert.mp hx with rfl | hx
      · exact min_le_left _ _
      · exact (min_le_right _ _).trans (ih.2 x hx)

theorem fold_min_isFirst {n : ℕ} {f : Fin n → EReal} {i : Fin n} (h : IsFirst f i) :
    Finset.univ.fold min (⊤ : EReal) f = f i := by
  apply le_antisymm
  · exact (Finset.le_fold_min (s := Finset.univ) (f := f) (b := (⊤ : EReal)) _).mp (le_refl _) |>.2 i (Finset.mem_univ i)
  · exact (Finset.le_fold_min _).mpr ⟨le_top, fun j _ => h.1 j⟩

/-- The least row number among those whose value is the least, every other row offering a number past the last. -/
theorem fold_index_isFirst {f : Fin 2048 → EReal} {i : Fin 2048} (h : IsFirst f i) (m : EReal) (hm : m = f i) :
    Finset.univ.fold IntOp.minsi 2147483647#32
      (fun k : Fin 2048 => if f k = m then BitVec.ofNat 32 k.val else 4096#32) = BitVec.ofNat 32 i.val := by
  subst hm
  obtain ⟨hv, hl⟩ := fold_minsi_spec (Finset.univ : Finset (Fin 2048)) 2147483647#32
    (fun k : Fin 2048 => if f k = f i then BitVec.ofNat 32 k.val else 4096#32)
  have hi := hl i (Finset.mem_univ i)
  have ti := toInt_ofNat (k := i.val) (by have := i.isLt; omega)
  rw [if_pos rfl, ti] at hi
  rcases hv with hv | ⟨k, -, hv⟩
  · rw [hv] at hi
    have : (2147483647#32).toInt = 2147483647 := by decide
    have := i.isLt
    omega
  · rw [hv]
    rw [hv] at hi
    split at hi
    · rename_i hk
      rw [if_pos hk]
      have tk := toInt_ofNat (k := k.val) (by have := k.isLt; omega)
      rcases lt_or_ge k i with hlt | hge
      · exact absurd (h.2 k hlt) (by rw [hk]; exact lt_irrefl _)
      · have : i.val ≤ k.val := hge
        have : i.val = k.val := by omega
        rw [this]
    · have : (4096#32).toInt = 4096 := by decide
      have := i.isLt
      omega

/-! ## Two chunks, one after the other -/

/-- The second of two chunks displaces the first only where its least value is lower: what is left is the first index
    of least value over both. -/
theorem two_chunks {f : Fin 4096 → EReal} {a b : Fin 2048}
    (ha : IsFirst (fun k : Fin 2048 => f ⟨k.val, by omega⟩) a) (hb : IsFirst (fun k : Fin 2048 => f ⟨2048 + k.val, by omega⟩) b) :
    IsFirst f (if f ⟨2048 + b.val, by omega⟩ < f ⟨a.val, by omega⟩ then ⟨2048 + b.val, by omega⟩ else ⟨a.val, by omega⟩) := by
  have hlo : ∀ j : Fin 4096, ∀ hj : j.val < 2048, f ⟨a.val, by omega⟩ ≤ f j := fun j hj => ha.1 ⟨j.val, hj⟩
  have hhi : ∀ j : Fin 4096, ∀ hj : ¬ j.val < 2048, f ⟨2048 + b.val, by omega⟩ ≤ f j := fun j hj => by
    have := hb.1 ⟨j.val - 2048, by omega⟩
    simp only at this
    rwa [show (⟨2048 + (j.val - 2048), by omega⟩ : Fin 4096) = j from Fin.ext (by simp only; omega)] at this
  split
  · rename_i hlt
    refine ⟨fun j => ?_, fun j hj => ?_⟩
    · by_cases h : j.val < 2048
      · exact hlt.le.trans (hlo j h)
      · exact hhi j h
    · by_cases h : j.val < 2048
      · exact lt_of_lt_of_le hlt (hlo j h)
      · have hj' : j.val < 2048 + b.val := hj
        have := hb.2 ⟨j.val - 2048, by omega⟩ (by show j.val - 2048 < b.val; omega)
        simp only at this
        rwa [show (⟨2048 + (j.val - 2048), by omega⟩ : Fin 4096) = j from Fin.ext (by simp only; omega)] at this
  · rename_i hge
    refine ⟨fun j => ?_, fun j hj => ?_⟩
    · by_cases h : j.val < 2048
      · exact hlo j h
      · exact (not_lt.mp hge).trans (hhi j h)
    · have hj' : j.val < a.val := hj
      exact ha.2 ⟨j.val, by omega⟩ hj'

end Cert.FirstMin

end
-- ==== Proof.Distance.lean ====
/- The arithmetic of the squared distance: a normalised row is finite whatever its projection, the two ways of writing
   the squared distance agree on finite numbers, and clipping below and taking the square root keep the first index of
   least value when codewords are equal or apart. -/
module

public import proofs.«01_k».proof.Proof.FirstMin

@[expose] public section

noncomputable section

namespace Cert.Distance

open Idealize.ShloMosaic

/-- The clip's floor, the number the pattern `0x2B8CBCCC` denotes. -/
def eps : ℝ := 9223372 * (2 : ℝ) ^ (-63 : ℤ)

theorem eps_pos : 0 < eps := by unfold eps; positivity

theorem ofBits_eps : Ideal.ofBits .f32 0x2B8CBCCC#32 = (eps : EReal) := by
  unfold eps
  simp [Ideal.ofBits, Ideal.ieee, -EReal.coe_mul]

theorem ofBits_four_eps : Ideal.ofBits .f32 0x2C8CBCCC#32 = ((4 * eps : ℝ) : EReal) := by
  unfold eps
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_two : Ideal.ofBits .f32 0xC0000000#32 = ((-2 : ℝ) : EReal) := by
  simp [Ideal.ofBits, Ideal.ieee, -EReal.coe_mul]; norm_num

theorem ofBits_top : Ideal.ofBits .f32 0x7F800000#32 = ⊤ := by
  simp [Ideal.ofBits, Ideal.ieee]

theorem coe_max (a b : ℝ) : ((max a b : ℝ) : EReal) = max (a : EReal) (b : EReal) := EReal.coe_strictMono.monotone.map_max

/-! ## The normalised row -/

/-- A row over the larger of its length and the floor. -/
def normed (p : Fin 16 → EReal) (e : Fin 16) : EReal :=
  p e * (max (Ideal.sqrt (∑ i, p i * p i)) (eps : EReal))⁻¹

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mul_self_nonneg' (a : EReal) : 0 ≤ a * a := by
  rcases le_total 0 a with h | h
  · exact mul_nonneg h h
  · induction a using EReal.rec with
    | bot => simp
    | top => simp
    | coe r => rw [← EReal.coe_mul]; exact_mod_cast mul_self_nonneg r

theorem sqrt_coe {r : ℝ} (h : 0 ≤ r) : Ideal.sqrt (r : EReal) = (Real.sqrt r : EReal) := if_neg (not_lt.mpr h)

/-- A row's projection. -/
def project (u : Fin 1024 → EReal) (rp : Fin 1024 → Fin 16 → EReal) (e : Fin 16) : EReal := ∑ l, u l * rp l e

theorem normed_real (p : Fin 16 → EReal) : ∃ n : Fin 16 → ℝ, ∀ e, normed p e = (n e : EReal) := by
  by_cases htop : ∑ i, p i * p i = ⊤
  · refine ⟨fun _ => 0, fun e => ?_⟩
    unfold normed
    rw [htop, show Ideal.sqrt ⊤ = ⊤ from rfl, max_eq_left le_top, EReal.inv_top, mul_zero, EReal.coe_zero]
  · have hfin : ∀ i, p i ≠ ⊤ ∧ p i ≠ ⊥ := by
      intro i
      have hle : p i * p i ≤ ∑ i, p i * p i :=
        Finset.single_le_sum (f := fun i => p i * p i) (fun j _ => mul_self_nonneg' (p j)) (Finset.mem_univ i)
      constructor <;> intro h <;> apply htop <;> rw [h] at hle
      · rw [EReal.top_mul_top] at hle; exact top_le_iff.mp hle
      · rw [EReal.bot_mul_bot] at hle; exact top_le_iff.mp hle
    choose r hr using fun i => (⟨(p i).toReal, (EReal.coe_toReal (hfin i).1 (hfin i).2).symm⟩ : ∃ r : ℝ, p i = (r : EReal))
    refine ⟨fun e => r e * (max (Real.sqrt (∑ i, r i * r i)) eps)⁻¹, fun e => ?_⟩
    unfold normed
    simp only [hr, ← EReal.coe_mul, ← coe_sum]
    rw [sqrt_coe (Finset.sum_nonneg fun i _ => mul_self_nonneg _), ← coe_max, ← EReal.coe_inv, ← EReal.coe_mul]

/-- The floor keeps the divisor off zero, so dividing by it is multiplying by its inverse, with or without a one. -/
theorem floor_ne_zero (s : EReal) : max s (eps : EReal) ≠ 0 := by
  have h : (0 : EReal) < eps := by exact_mod_cast eps_pos
  exact (lt_of_lt_of_le h (le_max_right _ _)).ne'

theorem div_floor (a s : EReal) : Ideal.div a (max s (eps : EReal)) = a * (max s (eps : EReal))⁻¹ := if_neg (floor_ne_zero s)

theorem mul_one_div_floor (a s : EReal) : a * Ideal.div 1 (max s (eps : EReal)) = a * (max s (eps : EReal))⁻¹ := by
  rw [div_floor, one_mul]

/-! ## The squared distance -/

/-- The squared distance of two finite vectors, expanded. -/
def dist (c n : Fin 16 → ℝ) : ℝ := ∑ e, c e * c e + ∑ e, n e * n e - 2 * ∑ e, c e * n e

theorem dist_eq (c n : Fin 16 → ℝ) : dist c n = ∑ e, (c e - n e) * (c e - n e) := by
  unfold dist
  rw [Finset.mul_sum, ← Finset.sum_add_distrib, ← Finset.sum_sub_distrib]
  exact Finset.sum_congr rfl fun e _ => by ring

theorem dist_nonneg (c n : Fin 16 → ℝ) : 0 ≤ dist c n := by
  rw [dist_eq]; exact Finset.sum_nonneg fun e _ => mul_self_nonneg _

/-- Two codewords within the floor of one point are less than four floors apart. -/
theorem apart_lt (a b n : Fin 16 → ℝ) (ha : dist a n < eps) (hb : dist b n ≤ eps) :
    ∑ e, (a e - b e) * (a e - b e) < 4 * eps := by
  have h : ∑ e, (a e - b e) * (a e - b e) ≤ 2 * dist a n + 2 * dist b n := by
    rw [dist_eq, dist_eq, Finset.mul_sum, Finset.mul_sum, ← Finset.sum_add_distrib]
    exact Finset.sum_le_sum fun e _ => by nlinarith [mul_self_nonneg (a e - n e + (b e - n e))]
  linarith

/-- What the reference ranks by: the square root of the squared distance clipped below at the floor. -/
def ranked (d : EReal) : EReal := Ideal.sqrt (max (eps : EReal) d)

theorem ranked_coe (d : ℝ) : ranked (d : EReal) = (Real.sqrt (max eps d) : EReal) := by
  unfold ranked
  rw [← coe_max]
  exact sqrt_coe (le_max_of_le_left eps_pos.le)

/-- Where any two codewords are equal or four floors apart, the first nearest codeword is also the first by the clipped
    distance. -/
theorem isFirst_ranked {k : ℕ} (cb : Fin k → Fin 16 → ℝ) (n : Fin 16 → ℝ)
    (hap : ∀ i j, ∑ e, (cb i e - cb j e) * (cb i e - cb j e) = 0 ∨ 4 * eps ≤ ∑ e, (cb i e - cb j e) * (cb i e - cb j e))
    {i : Fin k} (h : FirstMin.IsFirst (fun j => ((dist (cb j) n : ℝ) : EReal)) i) :
    FirstMin.IsFirst (fun j => ranked ((dist (cb j) n : ℝ) : EReal)) i := by
  refine ⟨fun j => ?_, fun j hj => ?_⟩
  · simp only [ranked_coe, EReal.coe_le_coe_iff]
    exact Real.sqrt_le_sqrt (max_le_max_left _ (EReal.coe_le_coe_iff.mp (h.1 j)))
  · simp only [ranked_coe, EReal.coe_lt_coe_iff]
    have hlt := EReal.coe_lt_coe_iff.mp (h.2 j hj)
    have hbig : eps < dist (cb j) n := by
      by_contra hsmall
      have hsmall := not_lt.mp hsmall
      have hclose := apart_lt (cb i) (cb j) n (lt_of_lt_of_le hlt hsmall) hsmall
      have hzero := (hap i j).resolve_right (not_le.mpr hclose)
      rw [Finset.sum_eq_zero_iff_of_nonneg fun e _ => mul_self_nonneg _] at hzero
      have heq : cb i = cb j := funext fun e => by
        have := mul_self_eq_zero.mp (hzero e (Finset.mem_univ e))
        linarith
      rw [heq] at hlt
      exact lt_irrefl _ hlt
    apply Real.sqrt_lt_sqrt (le_max_of_le_left eps_pos.le)
    rw [max_eq_right hbig.le]
    exact max_lt hbig hlt

/-- The squared distance as a sum of two squares less twice the product, on values that are finite. -/
theorem expanded_coe {c n : Fin 16 → EReal} {c' n' : Fin 16 → ℝ} (hc : ∀ e, c e = (c' e : EReal)) (hn : ∀ e, n e = (n' e : EReal)) :
    (∑ e, c e * c e) + (∑ e, n e * n e) - ((2 : ℝ) : EReal) * (∑ e, c e * n e) = (dist c' n' : EReal) := by
  simp only [hc, hn, ← EReal.coe_mul, ← coe_sum, ← EReal.coe_add, ← EReal.coe_sub]
  rfl

/-- The squared distance as one long product, on values that are finite. -/
theorem augmented_coe {c n : Fin 16 → EReal} {c' n' : Fin 16 → ℝ} (hc : ∀ e, c e = (c' e : EReal)) (hn : ∀ e, n e = (n' e : EReal)) :
    (∑ e, c e * ((-2 : ℝ) : EReal) * n e) + ((∑ e, c e * c e) + (∑ e, n e * n e)) = (dist c' n' : EReal) := by
  simp only [hc, hn, ← EReal.coe_mul, ← coe_sum, ← EReal.coe_add]
  congr 1
  unfold dist
  rw [Finset.mul_sum, show ∑ e, c' e * -2 * n' e = - ∑ e, 2 * (c' e * n' e) by
    rw [← Finset.sum_neg_distrib]; exact Finset.sum_congr rfl fun e _ => by ring]
  ring

end Cert.Distance

end
-- ==== Proof.KernelPoint.lean ====
/- The kernel's output block, lane by lane, over the extended reals: the index of the first nearest codeword to the
   lane's normalised row. -/
module

public import proofs.«01_k».proof.Proof.KernelBlock
public import proofs.«01_k».proof.Proof.Distance
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen
open Idealize.ShloMosaic Idealize.SL.Sem
open Cert.FirstMin
open Cert.Distance hiding dist

section
variable (x : Vec Ideal S2048x1024 .f32) (rp : Vec Ideal S1024x16 .f32) (cb : Vec Ideal S4096x16 .f32)
variable (j : Fin 2048) (n : Fin 16 → ℝ) (cb' : Fin 4096 → Fin 16 → ℝ)

/-- The long product of the augmented codeword and row is their squared distance. -/
theorem squared_at (ck : Vec Ideal S2048x16 .f32) (k : Fin 2048) (c' : Fin 16 → ℝ)
    (hn : ∀ e, normed (project (fun l => x (ix2 j l)) (fun l e => rp (ix2 l e))) e = (n e : EReal))
    (hc : ∀ e, ck (ix2 k e) = (c' e : EReal)) :
    k0_pay3 (F := Ideal) x rp ck (ix2 k j) = (Distance.dist c' n : EReal) := by
  pointwise [k0_pay3]
  rw [← augmented_coe (c := fun e => ck (ix2 k e)) hc hn, Fin.sum_univ_castSucc, Fin.sum_univ_castSucc, add_assoc]
  simp [ofBits_eps, ofBits_neg_two, mul_one_div_floor]
  unfold normed project
  rfl

/-- The codewords of the two trips. -/
theorem chunk_first (k : Fin 2048) (e : Fin 16) : chunk (F := Ideal) cb k₀ (ix2 k e) = cb (ix2 ⟨k.val, by omega⟩ e) := by
  unfold chunk
  refine View.ld_unit_apply_of _ _ _ _ _ _ fun a => ?_
  rw [show k0_off1 k₀ a = _ from congrFun (k0_off1_eq k₀) a]
  match a with
  | ⟨0, _⟩ => show k.val = 2048 * 0 + k.val; omega
  | ⟨1, _⟩ => show e.val = 0 + e.val; omega

theorem chunk_second (k : Fin 2048) (e : Fin 16) : chunk (F := Ideal) cb k₁ (ix2 k e) = cb (ix2 ⟨2048 + k.val, by omega⟩ e) := by
  unfold chunk
  refine View.ld_unit_apply_of _ _ _ _ _ _ fun a => ?_
  rw [show k0_off1 k₁ a = _ from congrFun (k0_off1_eq k₁) a]
  match a with
  | ⟨0, _⟩ => show 2048 + k.val = 2048 * 1 + k.val; omega
  | ⟨1, _⟩ => show e.val = 0 + e.val; omega

/-- One trip at a lane: the chunk's least distance where it is below the one carried, and its first codeword's index. -/
theorem step_at (t : Fin k0_t1_loop.trips) (acc : FVec Ideal S1x2048 .f32 × IVec S1x2048 32) {g : Fin 2048 → EReal} {i : Fin 2048}
    (hg : ∀ k, k0_pay3 (F := Ideal) x rp (chunk cb t) (ix2 k j) = g k) (hi : IsFirst g i) :
    (step (F := Ideal) x rp cb t acc).1 (ix2 0 j) = (if g i < acc.1 (ix2 0 j) then g i else acc.1 (ix2 0 j))
    ∧ (step (F := Ideal) x rp cb t acc).2 (ix2 0 j)
      = if g i < acc.1 (ix2 0 j) then IntOp.addi (BitVec.ofNat 32 i.val) (Scalar.muli (Scf.iv 0#32 1#32 t) 2048#32)
        else acc.2 (ix2 0 j) := by
  have hmin : Finset.univ.fold min (Ideal.ofBits .f32 2139095040#32) g = g i := by
    rw [ofBits_top]; exact fold_min_isFirst hi
  constructor
  · unfold step
    pointwise [k0_pay6, k0_pay5, k0_pay4]
    simp only [hg, hmin]
  · unfold step
    pointwise [k0_pay7, k0_pay5, k0_pay4]
    simp only [hg, hmin, fold_index_isFirst hi (g i) rfl]

/-- After both trips a lane holds the index of the first nearest codeword. -/
theorem steps_at (hn : ∀ e, normed (project (fun l => x (ix2 j l)) (fun l e => rp (ix2 l e))) e = (n e : EReal))
    (hc : ∀ k e, cb (ix2 k e) = (cb' k e : EReal)) {i : Fin 4096}
    (hi : IsFirst (fun k => (Distance.dist (cb' k) n : EReal)) i) :
    (step (F := Ideal) x rp cb k₁ (step x rp cb k₀ (k0_pay1, k0_pay2))).2 (ix2 0 j) = BitVec.ofNat 32 i.val := by
  obtain ⟨a, ha⟩ := exists_isFirst fun k : Fin 2048 => (Distance.dist (cb' ⟨k.val, by omega⟩) n : EReal)
  obtain ⟨b, hb⟩ := exists_isFirst fun k : Fin 2048 => (Distance.dist (cb' ⟨2048 + k.val, by omega⟩) n : EReal)
  obtain ⟨h₁, h₂⟩ := step_at x rp cb j k₀ (k0_pay1, k0_pay2) (fun k => squared_at x rp j n _ k _ hn
    fun e => (chunk_first cb k e).trans (hc _ e)) ha
  obtain ⟨-, h₄⟩ := step_at x rp cb j k₁ (step x rp cb k₀ (k0_pay1, k0_pay2)) (fun k => squared_at x rp j n _ k _ hn
    fun e => (chunk_second cb k e).trans (hc _ e)) hb
  have htop : (k0_pay1 (F := Ideal)) (ix2 0 j) = ⊤ := by
    pointwise [k0_pay1]
    exact ofBits_top
  have hlt : ((Distance.dist (cb' ⟨a.val, by omega⟩) n : ℝ) : EReal) < k0_pay1 (F := Ideal) (ix2 0 j) := by
    rw [htop]; exact EReal.coe_lt_top _
  rw [if_pos hlt] at h₁ h₂
  rw [h₁, h₂] at h₄
  rw [h₄, IsFirst.unique hi (two_chunks (f := fun k => (Distance.dist (cb' k) n : EReal)) ha hb),
    show Scalar.muli (Scf.iv 0#32 1#32 k₀.val) 2048#32 = 0#32 by decide, show Scalar.muli (Scf.iv 0#32 1#32 k₁.val) 2048#32 = BitVec.ofNat 32 2048 by decide]
  split_ifs
  · show BitVec.ofNat 32 b.val + BitVec.ofNat 32 2048 = BitVec.ofNat 32 (2048 + b.val)
    rw [← BitVec.ofNat_add, Nat.add_comm]
  · show BitVec.ofNat 32 a.val + 0#32 = BitVec.ofNat 32 a.val
    exact BitVec.add_zero _

end

/-- The last shape of the block keeps its lanes. -/
theorem pay8_at (v : IVec S1x2048 32) (j : Fin 2048) : k0_pay8 v (ix3 0 0 j) = v (ix2 0 j) := by
  pointwise [k0_pay8]

end Cert.KernelIdeal.Block

end
-- ==== Proof.KernelValue.lean ====
/- What the kernel's run leaves in its result: the windows' blocks over the launch contents, the written-back blocks
   tiling the output array, and the reshape after the region. -/
module

public import proofs.«01_k».proof.Proof.KernelPoint
public import Idealize.ShloMosaic.Lib.Pipeline.ValueKit
public import Idealize.ShloMosaic.Lib.Claim

@[expose] public section

set_option maxRecDepth 16384

noncomputable section

namespace Cert.KernelIdeal.Block

open Cert.KernelIdeal Cert.KernelIdeal.Gen
open Idealize.ShloMosaic Idealize.ShloMosaic.TcCoe Idealize.SL.Sem
open Cert.FirstMin
open Cert.Distance hiding dist

variable (m : (ℓ : Loc nD τ sig) → Buf (Elt Ideal) ℓ) (c : Dev nD)

/-- The arguments' contents at launch. -/
abbrev argX : FVec Ideal S2x4096x1024 .f32 := m ((c : Thread nD τ).loc main_arg0)
abbrev argP : FVec Ideal S1024x16 .f32 := m ((c : Thread nD τ).loc main_arg1)
abbrev argC : FVec Ideal S4096x16 .f32 := m ((c : Thread nD τ).loc main_arg2)

theorem flat_at (v : FVec Ideal S2x4096x1024 .f32) (r : Fin 8192) (l : Fin 1024) :
    shapeCast S8192x1024 v shapeCasts_S2x4096x1024_S8192x1024 (ix2 r l)
      = v (ix3 ⟨r.val / 4096, by omega⟩ ⟨r.val % 4096, by omega⟩ l) := by
  pointwise

theorem entry_rows : V m c main_call0_v0 = shapeCast S8192x1024 (argX m c) shapeCasts_S2x4096x1024_S8192x1024 := by
  entry_read
  rfl

theorem block_rows (t : Fin cfg0.N) (j : Fin 2048) (l : Fin 1024) (h : 2048 * t.val + j.val < 8192) :
    iblk m c 0 t (ix2 j l) = argX m c (ix3 ⟨(2048 * t.val + j.val) / 4096, by omega⟩ ⟨(2048 * t.val + j.val) % 4096, by omega⟩ l) := by
  have hi : win0_0.index t 0 = t.val ∧ win0_0.index t 1 = 0 := by
    rcases fin_N0 t with rfl | rfl | rfl | rfl <;> decide
  have hx := flat_at (argX m c) ⟨2048 * t.val + j.val, h⟩ l
  rw [← entry_rows] at hx
  rw [← hx]
  unfold iblk
  rw [View.read_apply]
  show V m c main_call0_v0 _ = V m c main_call0_v0 _
  congr 1
  funext a
  apply Fin.ext
  match a with
  | ⟨0, _⟩ => show win0_0.index t 0 * 2048 + 1 * j.val = 2048 * t.val + j.val; rw [hi.1]; omega
  | ⟨1, _⟩ => show win0_0.index t 1 * 1024 + 1 * l.val = l.val; rw [hi.2]; omega

theorem block_proj (t : Fin cfg0.N) (l : Fin 1024) (e : Fin 16) : iblk m c 1 t (ix2 l e) = argP m c (ix2 l e) := by
  have hi : win0_1.index t 0 = 0 ∧ win0_1.index t 1 = 0 := by
    rcases fin_N0 t with rfl | rfl | rfl | rfl <;> decide
  unfold iblk
  rw [View.read_apply]
  show V m c main_arg1 _ = _
  rw [V_main_arg1]
  congr 1
  funext a
  apply Fin.ext
  match a with
  | ⟨0, _⟩ => show win0_1.index t 0 * 1024 + 1 * l.val = l.val; rw [hi.1]; omega
  | ⟨1, _⟩ => show win0_1.index t 1 * 16 + 1 * e.val = e.val; rw [hi.2]; omega

theorem block_codes (t : Fin cfg0.N) (k : Fin 4096) (e : Fin 16) : iblk m c 2 t (ix2 k e) = argC m c (ix2 k e) := by
  have hi : win0_2.index t 0 = 0 ∧ win0_2.index t 1 = 0 := by
    rcases fin_N0 t with rfl | rfl | rfl | rfl <;> decide
  unfold iblk
  rw [View.read_apply]
  show V m c main_arg2 _ = _
  rw [V_main_arg2]
  congr 1
  funext a
  apply Fin.ext
  match a with
  | ⟨0, _⟩ => show win0_2.index t 0 * 4096 + 1 * k.val = k.val; rw [hi.1]; omega
  | ⟨1, _⟩ => show win0_2.index t 1 * 16 + 1 * e.val = e.val; rw [hi.2]; omega

/-- The output array as the write-backs leave it, from one codeword index per row. -/
def rowWords (idx : Fin 8192 → Fin 4096) : IVec S4x1x2048 32 := fun i =>
  BitVec.ofNat 32 (idx ⟨2048 * (i 0).val + (i 2).val, by have := (i 0).isLt; have := (i 2).isLt; simp at *; omega⟩).val

/-- A row's projection over the launch contents. -/
abbrev rowOf (r : Fin 8192) : Fin 16 → EReal :=
  project (fun l => argX m c (ix3 ⟨r.val / 4096, by omega⟩ ⟨r.val % 4096, by omega⟩ l)) (fun l e => argP m c (ix2 l e))

section
variable (n : Fin 8192 → Fin 16 → ℝ) (cb' : Fin 4096 → Fin 16 → ℝ) (idx : Fin 8192 → Fin 4096)

theorem point_at (hn : ∀ r e, normed (rowOf m c r) e = (n r e : EReal)) (hc : ∀ k e, argC m c (ix2 k e) = (cb' k e : EReal))
    (hi : ∀ r, IsFirst (fun k => (Distance.dist (cb' k) (n r) : EReal)) (idx r)) (t : Fin cfg0.N) (j : Fin 2048)
    (h : 2048 * t.val + j.val < 8192) :
    outsAt0 m c t (ix3 0 0 j) = BitVec.ofNat 32 (idx ⟨2048 * t.val + j.val, h⟩).val := by
  rw [outsAt_eq, pay8_at]
  refine steps_at _ _ _ j (n ⟨2048 * t.val + j.val, h⟩) cb' (fun e => ?_) (fun k e => ?_) (hi _)
  · rw [← hn]
    simp only [block_rows m c t j _ h, block_proj]
  · rw [block_codes, hc]

theorem array_eq (hn : ∀ r e, normed (rowOf m c r) e = (n r e : EReal)) (hc : ∀ k e, argC m c (ix2 k e) = (cb' k e : EReal))
    (hi : ∀ r, IsFirst (fun k => (Distance.dist (cb' k) (n r) : EReal)) (idx r)) :
    (dats m 0 c).arrAt 3 cfg0.N = rowWords idx := by
  refine (dats m 0 c).arrAt_eq_of_covers 3 _ (by decide +kernel) fun t hf y => ?_
  blk_simp
  rw [after0_3]
  have hN : t.val < 4 := lt_of_lt_of_eq t.isLt N_0
  have ht : win0_3.index t 0 = t.val ∧ win0_3.index t 2 = 0 := by
    rcases fin_N0 t with rfl | rfl | rfl | rfl <;> decide
  obtain ⟨j, rfl⟩ : ∃ j : Fin 2048, y = ix3 0 0 j := by
    refine ⟨y 2, funext fun a => ?_⟩
    match a with
    | ⟨0, _⟩ => exact Subsingleton.elim (α := Fin 1) _ _
    | ⟨1, _⟩ => exact Subsingleton.elim (α := Fin 1) _ _
    | ⟨2, _⟩ => rfl
  refine (point_at m c n cb' idx hn hc hi t j (by omega)).trans ?_
  unfold rowWords
  congr 3
  apply Fin.ext
  show 2048 * t.val + j.val = 2048 * (win0_3.index t 0 * 1 + 1 * 0) + (win0_3.index t 2 * 2048 + 1 * j.val)
  rw [ht.1, ht.2]
  omega

end

theorem result_at (v : IVec S4x1x2048 32) (b : Fin 2) (s : Fin 4096) :
    shapeCast S2x4096 v shapeCasts_S4x1x2048_S2x4096 (ix2 b s)
      = v (ix3 ⟨b.val * 2 + s.val / 2048, by omega⟩ 0 ⟨s.val % 2048, by omega⟩) := by
  pointwise

/-- The run, its result from the output array. -/
theorem run_main_words (ρ : Dev nD → PrngReg) :
    θ_run defs (onTc (τ := τ) (main (F := Ideal))) ⟨m, fun _ => 0, ρ⟩ fun r => ∀ c : Dev nD,
      r.2.mem ((c : Thread nD τ).loc main_v0) = shapeCast S2x4096 ((dats m 0 c).arrAt 3 cfg0.N) shapeCasts_S4x1x2048_S2x4096
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  run_from Cert.KernelIdeal.Gen.run_main m ρ
  · unfold Pipeline.afterTail₀
    simp only [hostOps1, List.flatten_cons, List.flatten_nil, List.append_nil]
    after_results
    exact congrArg (fun v => shapeCast S2x4096 v shapeCasts_S4x1x2048_S2x4096)
      (Pipeline.withArrays_arr spec0 (by decide) c (V0 m c) (fun w => (dats m 0 c).arrAt w cfg0.N) 3)
  · exact W_main_arg0 m (dats m) c

end Cert.KernelIdeal.Block

end
-- ==== Proof.ReferenceValue.lean ====
/- The reference's stages, read at an index over the extended reals. -/
module

public import proofs.«01_k».proof.Proof.ReferenceRun
public import proofs.«01_k».proof.Proof.Distance
public import Idealize.ShloMosaic.Lib.Pointwise

@[expose] public section

set_option maxRecDepth 16384

noncomputable section

namespace Cert.ReferenceIdeal.Run

open Cert.ReferenceIdeal Cert.ReferenceIdeal.Gen
open Idealize.ShloMosaic Idealize.SL.Sem
open Cert.FirstMin
open Cert.Distance hiding dist

theorem proj_at (x : FVec Ideal S2x4096x1024 .f32) (rp : FVec Ideal S1024x16 .f32) (r : Fin 8192) (e : Fin 16) :
    proj (F := Ideal) x rp (ix2 r e)
      = project (fun l => x (ix3 ⟨r.val / 4096, by omega⟩ ⟨r.val % 4096, by omega⟩ l)) (fun l e => rp (ix2 l e)) e := by
  pointwise [proj]
  unfold project
  rfl

theorem rows_at (p : FVec Ideal S8192x16 .f32) (r : Fin 8192) (e : Fin 16) :
    rows (F := Ideal) p (ix2 r e) = normed (fun e => p (ix2 r e)) e := by
  pointwise [rows, lengths]
  unfold normed
  rw [show id (constant (F := Ideal) S_ .f32 0x2B8CBCCC#32) ix0 = (eps : EReal) from ofBits_eps, max_comm, div_floor]

theorem squared_at (cb : FVec Ideal S4096x16 .f32) (n : FVec Ideal S8192x16 .f32) (k : Fin 4096) (r : Fin 8192)
    (c' n' : Fin 16 → ℝ) (hc : ∀ e, cb (ix2 k e) = (c' e : EReal)) (hn : ∀ e, n (ix2 r e) = (n' e : EReal)) :
    squared (F := Ideal) cb n (ix2 k r) = (Distance.dist c' n' : EReal) := by
  pointwise [squared]
  rw [ofBits_two, ← expanded_coe hc hn]

theorem distances_at (d : FVec Ideal S4096x8192 .f32) (k : Fin 4096) (r : Fin 8192) :
    distances (F := Ideal) d (ix2 k r) = ranked (d (ix2 k r)) := by
  pointwise [distances]
  unfold ranked
  rw [show id (constant (F := Ideal) S_ .f32 0x2B8CBCCC#32) ix0 = (eps : EReal) from ofBits_eps]

/-- The reduction's body keeps the pair of the lesser distance, and of the lesser index where the distances are equal. -/
theorem reducer_picks : Picks (reducer_argmin_f32_i32 (F := Ideal)) := by
  intro a b
  obtain ⟨a₁, a₂⟩ := a
  obtain ⟨b₁, b₂⟩ := b
  have hor : ∀ p q : Bool, IntOp.ori (BitVec.ofBool p) (BitVec.ofBool q) = BitVec.ofBool (p || q) := by decide
  have hand : ∀ p q : Bool, IntOp.andi (BitVec.ofBool p) (BitVec.ofBool q) = BitVec.ofBool (p && q) := by decide
  have hsel : ∀ {α : Type} (p : Bool) (x y : α), Scalar.select (BitVec.ofBool p) x y = if p then x else y := by
    intro α p x y; cases p <;> rfl
  have hval : reducer_argmin_f32_i32 (F := Ideal) (a₁, a₂) (b₁, b₂)
      = (if a₁ < b₁ then a₁ else b₁, if a₁ < b₁ ∨ (a₁ = b₁ ∧ a₂.toInt < b₂.toInt) then a₂ else b₂) := by
    unfold reducer_argmin_f32_i32
    simp only [Ideal.cmpf_def, Ideal.cmp, IntOp.cmpi, hor, hand, hsel, BitVec.slt]
    simp
  rw [hval]
  unfold PairLe
  rcases lt_trichotomy a₁ b₁ with h | h | h
  · simp [h]
  · subst h
    by_cases h' : a₂.toInt < b₂.toInt
    · simp [h', h'.le]
    · simp [h', not_lt.mp h']
  · simp [h, not_lt.mpr h.le, h.ne']

/-- The pairs a column's reduction meets are the column's values with their rows' numbers. -/
theorem mem_column (d : FVec Ideal S4096x8192 .f32) (r : Fin 8192) (p : EReal × BitVec 32) :
    p ∈ Host.argReduceFiber d (iotaInDim S4096x8192 32 0) reducesTo_S4096x8192_S8192_d0 (ix1 r)
      ↔ ∃ k : Fin 4096, p = (d (ix2 k r), BitVec.ofNat 32 k.val) := by
  unfold Host.argReduceFiber
  simp only [List.mem_map, List.mem_filter, List.mem_finRange, true_and, decide_eq_true_eq]
  constructor
  · rintro ⟨q, hq, rfl⟩
    obtain ⟨k, hk⟩ := (Shape.ReducesTo.fiber_r2_a0 _ _ _).mp hq
    rw [← hk]
    exact ⟨k, rfl⟩
  · rintro ⟨k, rfl⟩
    refine ⟨S4096x8192.rowMajor (ix2 k r), ?_, ?_⟩
    · rw [Equiv.symm_apply_apply]
      exact (Shape.ReducesTo.fiber_r2_a0 _ _ _).mpr ⟨k, rfl⟩
    · rw [Equiv.symm_apply_apply]
      rfl

/-- A host reduction of pairs whose body picks the lesser, started at infinity: it ends at the first least value's
    index. -/
theorem argReduce_least {op : EReal × BitVec 32 → EReal × BitVec 32 → EReal × BitVec 32} (hp : Picks op)
    {s t u : Shape} {axes : List (Fin s.rank)} (x : FVec Ideal s .f32) (y : s.Idx → BitVec 32) (ix : u.Idx → Ideal .f32)
    (iy : u.Idx → BitVec 32) (h : s.ReducesTo axes t) (hu : 0 < u.numel) (j : t.Idx)
    {n : ℕ} [NeZero n] (hn : n ≤ 2 ^ 31) (f : Fin n → EReal) (hf : ∀ k, f k < ⊤)
    (hl : ∀ p : EReal × BitVec 32, p ∈ Host.argReduceFiber x y h j ↔ ∃ k : Fin n, p = (f k, BitVec.ofNat 32 k.val))
    (hix : ix (Shape.Idx.first hu) = (⊤ : EReal)) :
    ∃ i, IsFirst f i ∧ (Host.argReduce (F := Ideal) op x y ix iy h hu j).2 = BitVec.ofNat 32 i.val := by
  obtain ⟨i, hi, he⟩ := foldl_isFirst hp hn f hf (Host.argReduceFiber x y h j) hl (iy (Shape.Idx.first hu))
  refine ⟨i, hi, ?_⟩
  rw [Ideal.argReduce_eq_reduce2, Host.reduce2_eq_foldl_fiber, hix]
  exact he

/-- `leastIndex`'s definition, and at an index: stated of the function, so that no step opens the reduction. -/
theorem leastIndex_def {F : FTy → Type} [FloatOps F] : leastIndex (F := F) = fun d j =>
    (Host.argReduce reducer_argmin_f32_i32 d (iotaInDim S4096x8192 32 0) (constant S_ .f32 0x7F800000#32) (constantI S_ 32 0#32)
      reducesTo_S4096x8192_S8192_d0 h_S_ j).2 := rfl

theorem leastIndex_apply {F : FTy → Type} [FloatOps F] (d : FVec F S4096x8192 .f32) (j : S8192.Idx) : leastIndex d j
    = (Host.argReduce reducer_argmin_f32_i32 d (iotaInDim S4096x8192 32 0) (constant S_ .f32 0x7F800000#32) (constantI S_ 32 0#32)
      reducesTo_S4096x8192_S8192_d0 h_S_ j).2 :=
  congrFun (congrFun leastIndex_def d) j

/-- A column whose values are all below infinity reduces to the index of its first least value. -/
theorem leastIndex_at (d : FVec Ideal S4096x8192 .f32) (r : Fin 8192) (hd : ∀ k, d (ix2 k r) < ⊤) :
    ∃ i, IsFirst (fun k : Fin 4096 => d (ix2 k r)) i ∧ leastIndex (F := Ideal) d (ix1 r) = BitVec.ofNat 32 i.val := by
  obtain ⟨i, hi, he⟩ := argReduce_least reducer_picks d (iotaInDim S4096x8192 32 0) (constant S_ .f32 0x7F800000#32)
    (constantI S_ 32 0#32) reducesTo_S4096x8192_S8192_d0 h_S_ (ix1 r) (n := 4096) (by norm_num) (fun k => d (ix2 k r)) hd
    (mem_column d r) ofBits_top
  exact ⟨i, hi, (leastIndex_apply d _).trans he⟩

/-- The result's shape keeps the rows' order. -/
theorem result_at (v : IVec S8192 32) (b : Fin 2) (s : Fin 4096) :
    shapeCast S2x4096 v shapeCasts_S8192_S2x4096 (ix2 b s) = v (ix1 ⟨b.val * 4096 + s.val, by omega⟩) := by
  pointwise

theorem nearest_def {F : FTy → Type} [FloatOps F] : nearest (F := F) = fun x rp cb =>
    shapeCast S2x4096 (leastIndex (distances (squared cb (rows (proj x rp))))) shapeCasts_S8192_S2x4096 := rfl

section
variable (x : FVec Ideal S2x4096x1024 .f32) (rp : FVec Ideal S1024x16 .f32) (cb : FVec Ideal S4096x16 .f32)
    (n : Fin 8192 → Fin 16 → ℝ) (cb' : Fin 4096 → Fin 16 → ℝ) (idx : Fin 8192 → Fin 4096)

theorem ranked_at (r : Fin 8192)
    (hn : ∀ e, normed (project (fun l => x (ix3 ⟨r.val / 4096, by omega⟩ ⟨r.val % 4096, by omega⟩ l)) (fun l e => rp (ix2 l e))) e
      = (n r e : EReal))
    (hc : ∀ k e, cb (ix2 k e) = (cb' k e : EReal)) (k : Fin 4096) :
    distances (F := Ideal) (squared cb (rows (proj x rp))) (ix2 k r) = ranked (Distance.dist (cb' k) (n r) : EReal) := by
  rw [distances_at, squared_at cb _ k r (cb' k) (n r) (hc k) fun e => ?_]
  rw [rows_at, ← hn e]
  congr 1
  funext e
  exact proj_at x rp r e

/-- Where the codewords are apart, the program's index of a row is its first nearest codeword's. -/
theorem nearest_value
    (hn : ∀ (r : Fin 8192) e, normed (project (fun l => x (ix3 ⟨r.val / 4096, by omega⟩ ⟨r.val % 4096, by omega⟩ l)) (fun l e => rp (ix2 l e))) e
      = (n r e : EReal))
    (hc : ∀ k e, cb (ix2 k e) = (cb' k e : EReal))
    (hap : ∀ i j, ∑ e, (cb' i e - cb' j e) * (cb' i e - cb' j e) = 0 ∨ 4 * eps ≤ ∑ e, (cb' i e - cb' j e) * (cb' i e - cb' j e))
    (hi : ∀ r, IsFirst (fun k => (Distance.dist (cb' k) (n r) : EReal)) (idx r)) (b : Fin 2) (s : Fin 4096) :
    nearest (F := Ideal) x rp cb (ix2 b s) = BitVec.ofNat 32 (idx ⟨b.val * 4096 + s.val, by omega⟩).val := by
  have hr := ranked_at x rp cb n cb' ⟨b.val * 4096 + s.val, by omega⟩ (hn _) hc
  obtain ⟨i, hi', he⟩ := leastIndex_at (distances (squared cb (rows (proj x rp)))) ⟨b.val * 4096 + s.val, by omega⟩
    fun k => by rw [hr, ranked_coe]; exact EReal.coe_lt_top _
  simp only [hr] at hi'
  rw [nearest_def]
  refine (result_at _ b s).trans (he.trans ?_)
  rw [IsFirst.unique hi' (isFirst_ranked cb' _ hap (hi _))]

end

end Cert.ReferenceIdeal.Run

end
-- ==== Proof.Codebook.lean ====
/- What the precondition says of the codebook over the extended reals: every entry is finite, and any two codewords are
   equal or at a squared distance of at least four times the floor. -/
module

public import proofs.«01_k».proof.Pre_codewords_apart
public import proofs.«01_k».proof.Proof.Gen.Pre_codewords_apart
public import proofs.«01_k».proof.Proof.Distance
public import Idealize.ShloMosaic.Lib.Pointwise
public import Idealize.ShloMosaic.Lib.ReduceAll

@[expose] public section

set_option maxRecDepth 16384

noncomputable section

namespace Cert.Pre_codewords_apart.Read

open Cert.Pre_codewords_apart Cert.Pre_codewords_apart.Gen
open Idealize.ShloMosaic
open Cert.Distance hiding dist

/-- An extended real of magnitude below infinity is a real. -/
theorem real_of_abs_lt_top {a : EReal} (h : max a (-a) < ⊤) : ∃ r : ℝ, a = (r : EReal) := by
  obtain ⟨h₁, h₂⟩ := max_lt_iff.mp h
  refine ⟨a.toReal, (EReal.coe_toReal h₁.ne ?_).symm⟩
  rintro rfl
  exact h₂.ne rfl

instance : Subsingleton S_.Idx := ⟨fun a b => funext fun i => i.elim0⟩

theorem ofBool_eq_one : ∀ b : Bool, BitVec.ofBool b = 1#1 ↔ b = true := by decide

theorem ori_eq_one : ∀ p q : BitVec 1, IntOp.ori p q = 1#1 ↔ p = 1#1 ∨ q = 1#1 := by decide

/-- The precondition, split: the entries' test, and the pairs' test. -/
theorem split (x : FVec Ideal S2x4096x1024 .f32) (rp : FVec Ideal S1024x16 .f32) (cb : FVec Ideal S4096x16 .f32)
    (h : fn (F := Ideal) x rp cb = fun _ => 1#1) :
    (∀ k e, max (cb (ix2 k e)) (-cb (ix2 k e)) < ⊤)
    ∧ ∀ i j : Fin 4096, (∑ e : Fin 16, (cb (ix2 i e) - cb (ix2 j e)) * (cb (ix2 i e) - cb (ix2 j e)) = 0)
      ∨ (((4 * eps : ℝ) : EReal) ≤ ∑ e : Fin 16, (cb (ix2 i e) - cb (ix2 j e)) * (cb (ix2 i e) - cb (ix2 j e))) := by
  have h0 := congrFun h ix0
  unfold fn at h0
  obtain ⟨ha, hb⟩ := IntOp.andi_eq_one.mp h0
  constructor
  · intro k e
    have hk := Host.reduce_andi_all _ _ _ _ _ ha (ix2 k e)
    revert hk
    pointwise
    rw [Ideal.absf_def, ofBits_top, ofBool_eq_one, decide_eq_true_eq]
    exact id
  · intro i j
    have hij := Host.reduce_andi_all _ _ _ _ _ hb (ix2 i j)
    revert hij
    pointwise
    rw [ofBits_four_eps, ori_eq_one, ofBool_eq_one, ofBool_eq_one, decide_eq_true_eq, decide_eq_true_eq]
    exact id

/-- The codebook's real entries, and how far apart its codewords are. -/
theorem codewords (x : FVec Ideal S2x4096x1024 .f32) (rp : FVec Ideal S1024x16 .f32) (cb : FVec Ideal S4096x16 .f32)
    (h : fn (F := Ideal) x rp cb = fun _ => 1#1) :
    ∃ cb' : Fin 4096 → Fin 16 → ℝ, (∀ k e, cb (ix2 k e) = (cb' k e : EReal))
      ∧ ∀ i j, ∑ e, (cb' i e - cb' j e) * (cb' i e - cb' j e) = 0 ∨ 4 * eps ≤ ∑ e, (cb' i e - cb' j e) * (cb' i e - cb' j e) := by
  obtain ⟨hf, hp⟩ := split x rp cb h
  choose cb' hc using fun k e => real_of_abs_lt_top (hf k e)
  refine ⟨cb', hc, fun i j => ?_⟩
  have hij := hp i j
  simp only [hc, ← EReal.coe_sub, ← EReal.coe_mul, ← coe_sum] at hij
  rcases hij with h | h
  · exact Or.inl (EReal.coe_eq_zero.mp h)
  · exact Or.inr (EReal.coe_le_coe_iff.mp h)

end Cert.Pre_codewords_apart.Read

end
-- ==== Proof.Value.lean ====
/- The kernel's result is the reference's, where the codewords are apart: both are, at every row, the index of the first
   nearest codeword. -/
module

public import proofs.«01_k».proof.Proof.KernelValue
public import proofs.«01_k».proof.Proof.ReferenceValue
public import proofs.«01_k».proof.Proof.Codebook

@[expose] public section

set_option maxRecDepth 16384

noncomputable section

namespace Cert.Value

open Idealize.ShloMosaic Idealize.ShloMosaic.TcCoe Idealize.SL.Sem
open Cert.FirstMin
open Cert.Distance hiding dist
open Cert.KernelIdeal Cert.KernelIdeal.Gen Cert.KernelIdeal.Block

theorem rowWords_at (idx : Fin 8192 → Fin 4096) (b : Fin 2) (s : Fin 4096) :
    rowWords idx (ix3 ⟨b.val * 2 + s.val / 2048, by omega⟩ 0 ⟨s.val % 2048, by omega⟩)
      = BitVec.ofNat 32 (idx ⟨b.val * 4096 + s.val, by omega⟩).val := by
  unfold rowWords
  congr 3
  apply Fin.ext
  show 2048 * (b.val * 2 + s.val / 2048) + s.val % 2048 = b.val * 4096 + s.val
  omega

theorem nearest_eq (m : (ℓ : Loc nD τ sig) → Buf (Elt Ideal) ℓ) (c : Dev nD)
    (h : Cert.Pre_codewords_apart.fn (F := Ideal) (argX m c) (argP m c) (argC m c) = fun _ => 1#1) :
    Cert.ReferenceIdeal.Run.nearest (F := Ideal) (argX m c) (argP m c) (argC m c)
      = shapeCast S2x4096 ((dats m 0 c).arrAt 3 cfg0.N) shapeCasts_S4x1x2048_S2x4096 := by
  obtain ⟨cb', hc, hap⟩ := Cert.Pre_codewords_apart.Read.codewords _ _ _ h
  choose n hn using fun r => normed_real (rowOf m c r)
  choose idx hi using fun r => exists_isFirst fun k : Fin 4096 => (Distance.dist (cb' k) (n r) : EReal)
  rw [array_eq m c n cb' idx hn hc hi]
  funext i
  obtain ⟨b, s, rfl⟩ : ∃ (b : Fin 2) (s : Fin 4096), i = ix2 b s := by
    refine ⟨i 0, i 1, funext fun a => ?_⟩
    match a with
    | ⟨0, _⟩ => rfl
    | ⟨1, _⟩ => rfl
  have hl := Cert.ReferenceIdeal.Run.nearest_value (argX m c) (argP m c) (argC m c) n cb' idx hn hc hap hi b s
  have hr := Block.result_at (rowWords idx) b s
  exact hl.trans ((rowWords_at idx b s).symm.trans hr.symm)

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_codewords_apart
public import proofs.«01_k».proof.Proof.ReferenceRun
public import proofs.«01_k».proof.Proof.Value
public import Idealize.ShloMosaic.Adequacy
public import Idealize.ShloMosaic.Init

@[expose] public section

noncomputable section

namespace Cert.Proof

open Idealize.ShloMosaic Idealize.SL.Sem Cert.Kernel

theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun _ h => And.intro (fun c => (h.1 c).2) h.2) (Cert.ReferenceIdeal.Run.run_main (F := Ideal) m g)

/-- The two runs end with equal results: the reference's index of each row is the kernel's. -/
theorem equal_results : Cert.algebraic_KernelIdeal_ReferenceIdeal_pre_codewords_apart := by
  intro m g m' g' hpre hagree
  refine ⟨_, Cert.KernelIdeal.Block.run_main_words m g, (θ_run _ _ _).mono (fun r h c => ?_) (Cert.ReferenceIdeal.Run.run_main m' g')⟩
  obtain ⟨hv, hargs⟩ := h.1 c
  refine ⟨hv.trans ?_, hargs⟩
  rw [(hagree c).1, (hagree c).2.1, (hagree c).2.2]
  exact Cert.Value.nearest_eq m c (hpre c)

theorem claim : Cert.Claim :=
  ⟨Cert.Kernel.Gen.facts, Cert.KernelIdeal.Gen.facts, Cert.ReferenceIdeal.Gen.facts, Cert.Pre_codewords_apart.Gen.facts,
    fun m g _ => Cert.Kernel.Gen.frame m g, fun m g _ => Cert.KernelIdeal.Gen.frame m g, fun m g _ => Cert.KernelIdeal.Gen.frame m g,
    fun m g _ => reference_frame m g, fun m g _ => reference_frame m g, trivial, equal_results⟩

end Cert.Proof

end
